-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_vocab [hPre_labels_in_vocab : Cert.Pre_labels_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_vocab [hPre_labels_in_vocab : Cert.Pre_labels_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_labels_in_vocab [hKernelIdeal : Cert.KernelIdeal.Facts] [hPre_labels_in_vocab : Cert.Pre_labels_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_vocab m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labels_in_vocab [hReferenceIdeal : Cert.ReferenceIdeal.Facts] [hPre_labels_in_vocab : Cert.Pre_labels_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "conf" .f32 0x3F666666#32 ((9 / 10 : ℝ) : EReal)
  ∧ IdealRules.named_const.Statement Cert.KernelIdeal.κ "eps" .f32 0x364CD000#32 ((1 / 327660 : ℝ) : EReal)
  ∧ IdealRules.named_const.Statement Cert.KernelIdeal.κ "k" .f32 0xBFAEB1B0#32 (((1 / 10) * (Real.log (129140163 / 109220000000000)) : ℝ) : EReal)

def algebraic_KernelIdeal_ReferenceIdeal_pre_labels_in_vocab [hKernelIdeal : Cert.KernelIdeal.Facts] [hReferenceIdeal : Cert.ReferenceIdeal.Facts] [hPre_labels_in_vocab : Cert.Pre_labels_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_vocab m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_in_vocab : Cert.Pre_labels_in_vocab.Facts),
    quiescent_Kernel (hKernel := hKernel)
    ∧ quiescent_KernelIdeal (hKernelIdeal := hKernelIdeal)
    ∧ quiescent_KernelIdeal_pre_labels_in_vocab (hKernelIdeal := hKernelIdeal) (hPre_labels_in_vocab := hPre_labels_in_vocab)
    ∧ quiescent_ReferenceIdeal (hReferenceIdeal := hReferenceIdeal)
    ∧ quiescent_ReferenceIdeal_pre_labels_in_vocab (hReferenceIdeal := hReferenceIdeal) (hPre_labels_in_vocab := hPre_labels_in_vocab)
    ∧ preserves_Kernel_KernelIdeal
    ∧ algebraic_KernelIdeal_ReferenceIdeal_pre_labels_in_vocab (hKernelIdeal := hKernelIdeal) (hReferenceIdeal := hReferenceIdeal) (hPre_labels_in_vocab := hPre_labels_in_vocab)
-- ==== Pre_labels_in_vocab.lean ====
abbrev S4096x32768 : Shape := ⟨2, ![4096, 32768]⟩
abbrev S4096 : Shape := ⟨1, ![4096]⟩
abbrev S_ : Shape := ⟨0, ![]⟩

class Facts : Prop where
  bcast_S_S4096 : S_.BroadcastsInDim S4096 (![] : Fin 0 → Fin S4096.rank)
  bcast_S_S4096x32768 : S_.BroadcastsInDim S4096x32768 (![] : Fin 0 → Fin S4096x32768.rank)
  reducesTo_S4096x32768_S_d0_1 : S4096x32768.ReducesTo [0, 1] S_
  h_S_ : 0 < S_.numel

variable [Facts]

def fn {F : FTy → Type} [FloatOps F] (main_arg0 : FVec F S4096x32768 .f32) (main_arg1 : IVec S4096 32) : IVec S4096 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 32768#32
  let main_v2 : IVec S4096 32 := broadcastInDim S4096 ![] bcast_S_S4096 main_c_0
  let main_v3 : IVec S4096 1 := cmpi .slt main_arg1 main_v2
  let main_v4 : IVec S4096 1 := andi main_v1 main_v3
  let main_cst : FVec F S_ .f32 := constant S_ .f32 0x7F800000#32
  let main_v5 : FVec F S4096x32768 .f32 := broadcastInDim S4096x32768 ![] bcast_S_S4096x32768 main_cst
  let main_v6 : IVec S4096x32768 1 := cmpf .olt main_arg0 main_v5
  let main_c_1 : IVec S_ 1 := constantI S_ 1 1#1
  let main_v7 : IVec S_ 1 := (fun x v => Host.reduce IntOp.andi x v reducesTo_S4096x32768_S_d0_1 h_S_) main_v6 main_c_1
  let main_cst_2 : FVec F S_ .f32 := constant S_ .f32 0xFF800000#32
  let main_v8 : FVec F S4096x32768 .f32 := broadcastInDim S4096x32768 ![] bcast_S_S4096x32768 main_cst_2
  let main_v9 : IVec S4096x32768 1 := cmpf .ogt main_arg0 main_v8
  let main_c_3 : IVec S_ 1 := constantI S_ 1 1#1
  let main_v10 : IVec S_ 1 := (fun x v => Host.reduce IntOp.andi x v reducesTo_S4096x32768_S_d0_1 h_S_) main_v9 main_c_3
  let main_v11 : IVec S_ 1 := ori main_v7 main_v10
  let main_v12 : IVec S4096 1 := broadcastInDim S4096 ![] bcast_S_S4096 main_v11
  let main_v13 : IVec S4096 1 := andi main_v4 main_v12
  main_v13
-- ==== Kernel.lean ====
abbrev S4096x32768 : Shape := ⟨2, ![4096, 32768]⟩
abbrev S4096 : Shape := ⟨1, ![4096]⟩
abbrev S256x16x1 : Shape := ⟨3, ![256, 16, 1]⟩
abbrev S1x1 : Shape := ⟨2, ![1, 1]⟩
abbrev S1x16x1 : Shape := ⟨3, ![1, 16, 1]⟩
abbrev S16x32768 : Shape := ⟨2, ![16, 32768]⟩
abbrev S2 : Shape := ⟨1, ![2]⟩
abbrev S1 : Shape := ⟨1, ![1]⟩
abbrev S16x1 : Shape := ⟨2, ![16, 1]⟩
abbrev S1x16x32768 : Shape := ⟨3, ![1, 16, 32768]⟩
abbrev S1x1x1 : Shape := ⟨3, ![1, 1, 1]⟩
abbrev S_ : Shape := ⟨0, ![]⟩

abbrev nBuf : Space → Nat
  | .hbm => 5
  | .vmem => 32
  | .smem => 2
  | _ => 0

abbrev bufTy : (tb : Table) → Fin (tcTables nBuf tb) → BufTy
  | .hbm, ⟨0, _⟩ => ⟨S4096x32768, .f32⟩
  | .hbm, ⟨1, _⟩ => ⟨S4096, .i32⟩
  | .hbm, ⟨2, _⟩ => ⟨S256x16x1, .i32⟩
  | .hbm, ⟨3, _⟩ => ⟨S1x1, .f32⟩
  | .hbm, ⟨4, _⟩ => ⟨S_, .f32⟩
  | .local _ .vmem, ⟨0, _⟩ => ⟨S1x16x1, .i32⟩
  | .local _ .vmem, ⟨1, _⟩ => ⟨S1x16x1, .i32⟩
  | .local _ .vmem, ⟨2, _⟩ => ⟨S1x16x1, .i32⟩
  | .local _ .vmem, ⟨3, _⟩ => ⟨S1x16x1, .i32⟩
  | .local _ .vmem, ⟨4, _⟩ => ⟨S1x16x1, .i32⟩
  | .local _ .vmem, ⟨5, _⟩ => ⟨S1x16x1, .i32⟩
  | .local _ .vmem, ⟨6, _⟩ => ⟨S1x16x1, .i32⟩
  | .local _ .vmem, ⟨7, _⟩ => ⟨S1x16x1, .i32⟩
  | .local _ .vmem, ⟨8, _⟩ => ⟨S1x16x1, .i32⟩
  | .local _ .vmem, ⟨9, _⟩ => ⟨S1x16x1, .i32⟩
  | .local _ .vmem, ⟨10, _⟩ => ⟨S1x16x1, .i32⟩
  | .local _ .vmem, ⟨11, _⟩ => ⟨S1x16x1, .i32⟩
  | .local _ .vmem, ⟨12, _⟩ => ⟨S1x16x1, .i32⟩
  | .local _ .vmem, ⟨13, _⟩ => ⟨S1x16x1, .i32⟩
  | .local _ .vmem, ⟨14, _⟩ => ⟨S1x16x1, .i32⟩
  | .local _ .vmem, ⟨15, _⟩ => ⟨S1x16x1, .i32⟩
  | .local _ .vmem, ⟨16, _⟩ => ⟨S16x32768, .f32⟩
  | .local _ .vmem, ⟨17, _⟩ => ⟨S16x32768, .f32⟩
  | .local _ .vmem, ⟨18, _⟩ => ⟨S16x32768, .f32⟩
  | .local _ .vmem, ⟨19, _⟩ => ⟨S16x32768, .f32⟩
  | .local _ .vmem, ⟨20, _⟩ => ⟨S16x32768, .f32⟩
  | .local _ .vmem, ⟨21, _⟩ => ⟨S16x32768, .f32⟩
  | .local _ .vmem, ⟨22, _⟩ => ⟨S16x32768, .f32⟩
  | .local _ .vmem, ⟨23, _⟩ => ⟨S16x32768, .f32⟩
  | .local _ .vmem, ⟨24, _⟩ => ⟨S16x32768, .f32⟩
  | .local _ .vmem, ⟨25, _⟩ => ⟨S16x32768, .f32⟩
  | .local _ .vmem, ⟨26, _⟩ => ⟨S16x32768, .f32⟩
  | .local _ .vmem, ⟨27, _⟩ => ⟨S16x32768, .f32⟩
  | .local _ .vmem, ⟨28, _⟩ => ⟨S16x32768, .f32⟩
  | .local _ .vmem, ⟨29, _⟩ => ⟨S16x32768, .f32⟩
  | .local _ .vmem, ⟨30, _⟩ => ⟨S16x32768, .f32⟩
  | .local _ .vmem, ⟨31, _⟩ => ⟨S16x32768, .f32⟩
  | .local _ .smem, ⟨0, _⟩ => ⟨S1x1, .f32⟩
  | .local _ .smem, ⟨1, _⟩ => ⟨S2, .f32⟩
  | _, _ => ⟨S4096x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v284 : BitVec 1 := Scalar.cmpi .eq arg0 c31_i32
  let v285 : BitVec 32 := Scalar.extui v284
  let c0_i32_134 : BitVec 32 := 0#32
  let v286 : BitVec 1 := Scalar.cmpi .ne v285 c0_i32_134
  v286

def cc0_transform_0 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_1 (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x16x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x32768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x32768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x32768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x32768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x32768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x32768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x32768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x32768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .smem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== KernelIdeal.lean ====
variable {F : FTy → Type} [FloatOps F] [Named F]
def κ : String → Option EReal := fun
  | "conf" => some ((9 / 10 : ℝ) : EReal)
  | "eps" => some ((1 / 327660 : ℝ) : EReal)
  | "k" => some (((1 / 10) * (Real.log (129140163 / 109220000000000)) : ℝ) : EReal)
  | _ => none
-- ==== ReferenceIdeal.lean ====
abbrev S4096x32768 : Shape := ⟨2, ![4096, 32768]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S1 : Shape := ⟨1, ![1]⟩

abbrev nBuf : Space → Nat
  | .hbm => 66
  | .vmem => 0
  | .smem => 0
  | _ => 0

abbrev bufTy : (tb : Table) → Fin (tcTables nBuf tb) → BufTy
  | .hbm, ⟨0, _⟩ => ⟨S4096x32768, .f32⟩
  | .hbm, ⟨1, _⟩ => ⟨S4096, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x32768, .f32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096x1, .i32⟩
  | .hbm, ⟨26, _⟩ => ⟨S4096x1, .i32⟩
  | .hbm, ⟨27, _⟩ => ⟨S4096x2, .i32⟩
  | .hbm, ⟨28, _⟩ => ⟨S4096, .f32⟩
  | .hbm, ⟨29, _⟩ => ⟨S4096x32768, .f32⟩
  | .hbm, ⟨30, _⟩ => ⟨S_, .i32⟩
  | .hbm, ⟨31, _⟩ => ⟨S1, .i32⟩
  | .hbm, ⟨32, _⟩ => ⟨S_, .f32⟩
  | .hbm, ⟨33, _⟩ => ⟨S4096, .f32⟩
  | .hbm, ⟨34, _⟩ => ⟨S4096x32768, .f32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S4096x1, .i1⟩
  | .hbm, ⟨39, _⟩ => ⟨S_, .f32⟩
  | .hbm, ⟨40, _⟩ => ⟨S_, .f32⟩
  | .hbm, ⟨41, _⟩ => ⟨S4096x32768, .i1⟩
  | .hbm, ⟨42, _⟩ => ⟨S4096x32768, .f32⟩
  | .hbm, ⟨43, _⟩ => ⟨S4096x32768, .f32⟩
  | .hbm, ⟨44, _⟩ => ⟨S_, .f32⟩
  | .hbm, ⟨45, _⟩ => ⟨S4096x32768, .f32⟩
  | .hbm, ⟨46, _⟩ => ⟨S4096x32768, .i1⟩
  | .hbm, ⟨47, _⟩ => ⟨S_, .f32⟩
  | .hbm, ⟨48, _⟩ => ⟨S4096x32768, .f32⟩
  | .hbm, ⟨49, _⟩ => ⟨S4096x32768, .i1⟩
  | .hbm, ⟨50, _⟩ => ⟨S_, .f32⟩
  | .hbm, ⟨51, _⟩ => ⟨S_, .f32⟩
  | .hbm, ⟨52, _⟩ => ⟨S4096x32768, .f32⟩
  | .hbm, ⟨53, _⟩ => ⟨S4096x32768, .f32⟩
  | .hbm, ⟨54, _⟩ => ⟨S4096x32768, .f32⟩
  | .hbm, ⟨55, _⟩ => ⟨S4096x32768, .f32⟩
  | .hbm, ⟨56, _⟩ => ⟨S_, .f32⟩
  | .hbm, ⟨57, _⟩ => ⟨S_, .f32⟩
  | .hbm, ⟨58, _⟩ => ⟨S4096x32768, .f32⟩
  | .hbm, ⟨59, _⟩ => ⟨S4096x32768, .f32⟩
  | .hbm, ⟨60, _⟩ => ⟨S4096x32768, .f32⟩
  | .hbm, ⟨61, _⟩ => ⟨S4096x32768, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S4096x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_cst_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_4 : Ref sig .tc := ⟨.hbm, 18, rfl⟩
abbrev main_v10 : Ref sig .tc := ⟨.hbm, 19, rfl⟩
abbrev main_v11 : Ref sig .tc := ⟨.hbm, 20, rfl⟩
abbrev main_c_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_c_8 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v26 : Ref sig .tc := ⟨.hbm, 43, rfl⟩
abbrev main_cst_10 : Ref sig .tc := ⟨.hbm, 44, rfl⟩
abbrev main_v27 : Ref sig .tc := ⟨.hbm, 45, rfl⟩
abbrev main_v28 : Ref sig .tc := ⟨.hbm, 46, rfl⟩
abbrev main_cst_11 : Ref sig .tc := ⟨.hbm, 47, rfl⟩
abbrev main_v29 : Ref sig .tc := ⟨.hbm, 48, rfl⟩
abbrev main_v30 : Ref sig .tc := ⟨.hbm, 49, rfl⟩
abbrev main_cst_12 : Ref sig .tc := ⟨.hbm, 50, rfl⟩
abbrev main_call1_v0 : Ref sig .tc := ⟨.hbm, 51, rfl⟩
abbrev main_call1_v1 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_13 : Ref sig .tc := ⟨.hbm, 56, rfl⟩
abbrev main_call2_v0 : Ref sig .tc := ⟨.hbm, 57, rfl⟩
abbrev main_call2_v1 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_14 : Ref sig .tc := ⟨.hbm, 62, rfl⟩
abbrev main_v37 : Ref sig .tc := ⟨.hbm, 63, rfl⟩
abbrev main_cst_15 : Ref sig .tc := ⟨.hbm, 64, rfl⟩
abbrev main_v38 : Ref sig .tc := ⟨.hbm, 65, rfl⟩

abbrev nD : Nat := 1
abbrev τ : Topo := Topo.v7x

variable {F : FTy → Type} [FloatOps F]
-- ==== Proof.Point.lean ====
/-
  WHAT ONE POINT OF THE GRID LEAVES. The body keeps two running totals in a two-cell scratch: cell 0 adds up the weighted
  scores, cell 1 counts the rows that are not padding. A point adds its eight splits to both, one split after another; the
  first point starts them from zero, and the last point also writes the loss.
-/
module

public import proofs.«01_k».proof.Proof.Gen.KernelIdeal.Frame
public import Idealize.ShloMosaic.Lib.Pipeline.Value
public import Idealize.ShloMosaic.Lib.CellWrites
public import Idealize.ShloMosaic.Lib.Tactic

@[expose] public section

noncomputable section

open Idealize.ShloMosaic Idealize.ShloMosaic.TcCoe Idealize.SL.Sem

namespace Cert.KernelIdeal.Value

open Cert.KernelIdeal Cert.KernelIdeal.Gen

variable {F : FTy → Type} [FloatOps F] [Named F]
variable (m : (ℓ : Loc nD τ sig) → Buf (Elt F) ℓ)

/-- Two zero offsets are the zero offset. -/
theorem hz2 : (![0, 0] : Fin 2 → Nat) = fun _ => 0 := funext fun a => by fin_cases a <;> rfl

/-- Three zero offsets are the zero offset. -/
theorem hz3 : (![0, 0, 0] : Fin 3 → Nat) = fun _ => 0 := funext fun a => by fin_cases a <;> rfl

/-- The eight blocks of labels that point `t` is given. -/
def tgtBlk (c : Dev nD) (t : Fin cfg0.N) : Fin 8 → Vec F S1x16x1 .i32 :=
  ![iblk m c 0 t, iblk m c 1 t, iblk m c 2 t, iblk m c 3 t, iblk m c 4 t, iblk m c 5 t, iblk m c 6 t, iblk m c 7 t]

/-- The eight blocks of scores that point `t` is given. -/
def xBlk (c : Dev nD) (t : Fin cfg0.N) : Fin 8 → Vec F S16x32768 .f32 :=
  ![iblk m c 8 t, iblk m c 9 t, iblk m c 10 t, iblk m c 11 t, iblk m c 12 t, iblk m c 13 t, iblk m c 14 t, iblk m c 15 t]

/-- The first running total after a point's eight splits: `a` and the weighted scores of each split, added in order. -/
def dots (T : Fin 8 → Vec F S1x16x1 .i32) (X : Fin 8 → Vec F S16x32768 .f32) (a : F .f32) : F .f32 :=
  Fin.foldl 8 (fun b k => k0_pay6 (T k) (X k) b) a

/-- The second running total after a point's eight splits: `a` and the count of each split's rows that are not padding. -/
def counts (T : Fin 8 → Vec F S1x16x1 .i32) (a : F .f32) : F .f32 :=
  Fin.foldl 8 (fun b k => k0_pay7 (T k) b) a

/-- The cell of the first running total. -/
def cell0 : S2.Idx := fun a => ⟨0, by fin_cases a; decide⟩

/-- The cell of the second running total. -/
def cell1 : S2.Idx := fun a => ⟨1, by fin_cases a; decide⟩

/-- Reading one cell of the two-cell scratch. -/
theorem ld_cell (v : S2.Idx → Elt F .f32) (k : ℕ) (inb : ∀ a, (![k] : Fin 1 → ℕ) a + (![1] : Fin 1 → ℕ) a ≤ S2.size a)
    (x : (Rect.unit (s := S2) ![k] ![1] inb).shape.Idx) (y : S2.Idx) (hy : (y 0).val = k) :
    View.ld v (Rect.unit (s := S2) ![k] ![1] inb) x = v y := by
  show v _ = v y
  congr 1
  funext a
  apply Fin.ext
  fin_cases a
  have := (x 0).isLt
  have h1 : (x 0).val = 0 := by have : (x 0).val < 1 := this; omega
  show k + 1 * (x 0).val = (y 0).val
  omega

/-- A point that is neither first nor last adds its eight splits to the totals it finds. -/
theorem step_B (c : Dev nD) (t : Fin cfg0.N) (h0 : ¬ t.val % 32 = 0) (h1 : ¬ t.val % 32 = 31) (y : S2.Idx) :
    (outsAt0 m c t.val t.isLt).2 y
      = if (y 0).val = 1 then counts (tgtBlk m c t) ((outsAt0 m c (t.val-1) (by omega)).2 y)
        else dots (tgtBlk m c t) (xBlk m c t) ((outsAt0 m c (t.val-1) (by omega)).2 y) := by
  rw [outsAt0_B m c t h0 h1]
  dsimp only
  generalize (outsAt0 m c (t.val-1) _).2 = xs
  unfold sout0_B_0 kernelRun0_B
  dsimp only
  sl_unfold_words
  simp only [View.readAt_eq_ld, Memref.IsWhole.read_unread, (Memref.isWhole_whole _).read_unread,
    View.ld_unit_zero (S := S1x16x1) hz3, View.ld_unit_zero (S := S16x32768) hz2]
  by_cases hy : (y 0).val = 1
  · rw [if_pos hy]
    refine (View.read_writes_cons_cell ..).trans ((if_pos hy).trans ?_)
    simp only [ld_cell xs 1 _ _ y hy]
    rfl
  · have hy0 : (y 0).val = 0 := by have : (y 0).val < 2 := (y 0).isLt; omega
    rw [if_neg hy]
    refine (View.read_writes_cons_cell ..).trans ((if_neg hy).trans ?_)
    refine (View.read_writes_cons_cell ..).trans ((if_pos hy0).trans ?_)
    simp only [ld_cell xs 0 _ _ y hy0]
    rfl

/-- The first point adds its eight splits to totals of zero. -/
theorem step_A (c : Dev nD) (t : Fin cfg0.N) (h0 : t.val % 32 = 0) (h1 : ¬ t.val % 32 = 31) (y : S2.Idx) :
    (outsAt0 m c t.val t.isLt).2 y
      = if (y 0).val = 1 then counts (tgtBlk m c t) (Scalar.ofBits .f32 0#32)
        else dots (tgtBlk m c t) (xBlk m c t) (Scalar.ofBits .f32 0#32) := by
  rw [outsAt0_A m c t h0 h1]
  dsimp only
  unfold sout0_A_0 kernelRun0_A
  dsimp only
  sl_unfold_words
  simp only [View.readAt_eq_ld, Memref.IsWhole.read_unread, (Memref.isWhole_whole _).read_unread,
    View.ld_unit_zero (S := S1x16x1) hz3, View.ld_unit_zero (S := S16x32768) hz2]
  by_cases hy : (y 0).val = 1
  · rw [if_pos hy]
    refine (View.read_writes_cons_cell ..).trans ((if_pos hy).trans ?_)
    rfl
  · have hy0 : (y 0).val = 0 := by have : (y 0).val < 2 := (y 0).isLt; omega
    rw [if_neg hy]
    refine (View.read_writes_cons_cell ..).trans ((if_neg hy).trans ?_)
    refine (View.read_writes_cons_cell ..).trans ((if_pos hy0).trans ?_)
    rfl

/-- The last point writes the loss of the totals it finds with its own eight splits added. -/
theorem step_C (c : Dev nD) (t : Fin cfg0.N) (h0 : ¬ t.val % 32 = 0) (h1 : t.val % 32 = 31) (y : S1x1.Idx) :
    (outsAt0 m c t.val t.isLt).1 y
      = k0_pay3 (counts (tgtBlk m c t) ((outsAt0 m c (t.val-1) (by omega)).2 cell1))
        (dots (tgtBlk m c t) (xBlk m c t) ((outsAt0 m c (t.val-1) (by omega)).2 cell0)) := by
  rw [outsAt0_C m c t h0 h1]
  dsimp only
  generalize (outsAt0 m c (t.val-1) _).2 = xs
  unfold out0_C_16
  rw [View.read_writes_eq_canon _ _ _ (fun y => cover0_C_16 (y := y) ..)]
  unfold kernelRun0_C
  dsimp only
  sl_unfold_words
  simp only [View.readAt_eq_ld, Memref.IsWhole.read_unread, (Memref.isWhole_whole _).read_unread,
    View.ld_unit_zero (S := S1x16x1) hz3, View.ld_unit_zero (S := S16x32768) hz2]
  rw [View.canon_unit_zero hz2]
  simp only [ld_cell xs 0 _ _ cell0 rfl, ld_cell xs 1 _ _ cell1 rfl]
  rfl

end Cert.KernelIdeal.Value
end
-- ==== Proof.Blocks.lean ====
/-
  WHAT THE WINDOWS HOLD. At point `t`, window `k` of the labels and window `8 + k` of the scores are the sixteen rows from
  row `(8 t + k) · 16` on, so that over the 32 points and 8 windows every row is met exactly once.
-/
module

public import proofs.«01_k».proof.Proof.Point
public import Idealize.ShloMosaic.Lib.ValueIdxCore

@[expose] public section

noncomputable section

open Idealize.ShloMosaic Idealize.ShloMosaic.TcCoe Idealize.SL.Sem
open Idealize.ShloMosaic.ValueIdx

namespace Cert.KernelIdeal.Value

open Cert.KernelIdeal Cert.KernelIdeal.Gen

variable {F : FTy → Type} [FloatOps F] [Named F]
variable (m : (ℓ : Loc nD τ sig) → Buf (Elt F) ℓ)

/-- Row `a` of split `k` of point `t`. -/
def row (t : Fin 32) (k : Fin 8) (a : Fin 16) : Fin 4096 := ⟨(t.val * 8 + k.val) * 16 + a.val, by omega⟩

/-- The labels as they reach the pipeline: the vector of 4096 regrouped as 256 blocks of 16. -/
theorem labels_eq (c : Dev nD) (b : Fin 256) (a : Fin 16) :
    V m c main_v0 (ix3 b a 0) = m ((c : Thread nD τ).loc main_arg1) (ix1 ⟨b.val * 16 + a.val, by omega⟩) := by
  have h : V m c main_v0 = shapeCast S256x16x1 (m ((c : Thread nD τ).loc main_arg1)) shapeCasts_S4096_S256x16x1 := by
    show StableHlo.after [StableHlo.reshape ..] _ (Proc.devRef .tc main_v0) = _
    after_results
    rfl
  rw [h]
  refine shapeCast_apply (s := S4096) _ _ _ _ ?_
  rw [Shape.rowMajor_val_one, Shape.rowMajor_val_three]
  show b.val * 16 + a.val = (b.val * 16 + a.val) * 1 + 0
  omega

/-- The block that window `k` of the labels is on at point `t`. -/
def labelBlock (t : Fin grid0.N) : Fin 8 → Fin 3 → ℕ :=
  ![win0_0.index t, win0_1.index t, win0_2.index t, win0_3.index t, win0_4.index t, win0_5.index t, win0_6.index t, win0_7.index t]

/-- The block that window `8 + k` of the scores is on at point `t`. -/
def scoreBlock (t : Fin grid0.N) : Fin 8 → Fin 2 → ℕ :=
  ![win0_8.index t, win0_9.index t, win0_10.index t, win0_11.index t, win0_12.index t, win0_13.index t, win0_14.index t, win0_15.index t]

/-- Window `k` of the labels is on block `8 t + k`. -/
theorem labelBlock_eq : ∀ (t : Fin grid0.N) (k : Fin 8), labelBlock t k = ![t.val * 8 + k.val, 0, 0] := by decide +kernel

/-- Window `8 + k` of the scores is on block `8 t + k`. -/
theorem scoreBlock_eq : ∀ (t : Fin grid0.N) (k : Fin 8), scoreBlock t k = ![t.val * 8 + k.val, 0] := by decide +kernel

/-- The grid has 32 points. -/
theorem N_eq : cfg0.N = 32 := N_0

/-- Row `a` of block `n` of the regrouped labels, from where the block begins. -/
theorem label_idx {i : S256x16x1.Idx} {off : Fin 3 → ℕ} {n : Fin 256} (a : Fin 16) (h : off = ![n.val, 0, 0])
    (hi : ∀ d, (i d).val = off d * S1x16x1.size d + 1 * ((ix3 0 a 0 : S1x16x1.Idx) d).val) : i = ix3 n a 0 := by
  subst h
  funext d; apply Fin.ext
  rw [hi]
  match d with
  | ⟨0, _⟩ => show n.val * 1 + 1 * 0 = n.val; omega
  | ⟨1, _⟩ => show 0 * 16 + 1 * a.val = a.val; omega
  | ⟨2, _⟩ => rfl

/-- Row `a` and column `b` of block `n` of the scores, from where the block begins. -/
theorem score_idx {i : S4096x32768.Idx} {off : Fin 2 → ℕ} {n : Fin 256} (a : Fin 16) (b : Fin 32768) (h : off = ![n.val, 0])
    (hi : ∀ d, (i d).val = off d * S16x32768.size d + 1 * ((ix2 a b : S16x32768.Idx) d).val) :
    i = ix2 ⟨n.val * 16 + a.val, by omega⟩ b := by
  subst h
  funext d; apply Fin.ext
  rw [hi]
  match d with
  | ⟨0, _⟩ => show n.val * 16 + 1 * a.val = n.val * 16 + a.val; omega
  | ⟨1, _⟩ => show 0 * 32768 + 1 * b.val = b.val; omega

/-- The block of sixteen rows that split `k` of point `t` works on. -/
def blockOf (t : Fin cfg0.N) (k : Fin 8) : Fin 256 := ⟨t.val * 8 + k.val, by have := lt_of_lt_of_eq t.isLt N_eq; omega⟩

/-- Split `k` of point `t` is given the labels of its sixteen rows. -/
theorem tgtBlk_apply (c : Dev nD) (t : Fin cfg0.N) (k : Fin 8) (a : Fin 16) :
    tgtBlk m c t k (ix3 0 a 0) = m ((c : Thread nD τ).loc main_arg1) (ix1 (row (t.cast N_eq) k a)) := by
  refine Eq.trans ?_ (labels_eq m c (blockOf t k) a)
  have e : labelBlock t k = ![(blockOf t k).val, 0, 0] := labelBlock_eq t k
  generalize blockOf t k = n at e ⊢
  match k, e with
  | 0, e => exact congrArg (V m c main_v0) (label_idx (i := ((cfg0.win 0).blk t).view.emb (ix3 0 a 0)) a e fun _ => rfl)
  | 1, e => exact congrArg (V m c main_v0) (label_idx (i := ((cfg0.win 1).blk t).view.emb (ix3 0 a 0)) a e fun _ => rfl)
  | 2, e => exact congrArg (V m c main_v0) (label_idx (i := ((cfg0.win 2).blk t).view.emb (ix3 0 a 0)) a e fun _ => rfl)
  | 3, e => exact congrArg (V m c main_v0) (label_idx (i := ((cfg0.win 3).blk t).view.emb (ix3 0 a 0)) a e fun _ => rfl)
  | 4, e => exact congrArg (V m c main_v0) (label_idx (i := ((cfg0.win 4).blk t).view.emb (ix3 0 a 0)) a e fun _ => rfl)
  | 5, e => exact congrArg (V m c main_v0) (label_idx (i := ((cfg0.win 5).blk t).view.emb (ix3 0 a 0)) a e fun _ => rfl)
  | 6, e => exact congrArg (V m c main_v0) (label_idx (i := ((cfg0.win 6).blk t).view.emb (ix3 0 a 0)) a e fun _ => rfl)
  | 7, e => exact congrArg (V m c main_v0) (label_idx (i := ((cfg0.win 7).blk t).view.emb (ix3 0 a 0)) a e fun _ => rfl)

/-- Split `k` of point `t` is given the scores of its sixteen rows. -/
theorem xBlk_apply (c : Dev nD) (t : Fin cfg0.N) (k : Fin 8) (a : Fin 16) (b : Fin 32768) :
    xBlk m c t k (ix2 a b) = m ((c : Thread nD τ).loc main_arg0) (ix2 (row (t.cast N_eq) k a) b) := by
  rw [← V_main_arg0 m c]
  have e : scoreBlock t k = ![(blockOf t k).val, 0] := scoreBlock_eq t k
  have hr : row (t.cast N_eq) k a = ⟨(blockOf t k).val * 16 + a.val, by omega⟩ := rfl
  rw [hr]
  match k, e with
  | 0, e => exact congrArg (V m c main_arg0) (score_idx (i := ((cfg0.win 8).blk t).view.emb (ix2 a b)) a b e fun _ => rfl)
  | 1, e => exact congrArg (V m c main_arg0) (score_idx (i := ((cfg0.win 9).blk t).view.emb (ix2 a b)) a b e fun _ => rfl)
  | 2, e => exact congrArg (V m c main_arg0) (score_idx (i := ((cfg0.win 10).blk t).view.emb (ix2 a b)) a b e fun _ => rfl)
  | 3, e => exact congrArg (V m c main_arg0) (score_idx (i := ((cfg0.win 11).blk t).view.emb (ix2 a b)) a b e fun _ => rfl)
  | 4, e => exact congrArg (V m c main_arg0) (score_idx (i := ((cfg0.win 12).blk t).view.emb (ix2 a b)) a b e fun _ => rfl)
  | 5, e => exact congrArg (V m c main_arg0) (score_idx (i := ((cfg0.win 13).blk t).view.emb (ix2 a b)) a b e fun _ => rfl)
  | 6, e => exact congrArg (V m c main_arg0) (score_idx (i := ((cfg0.win 14).blk t).view.emb (ix2 a b)) a b e fun _ => rfl)
  | 7, e => exact congrArg (V m c main_arg0) (score_idx (i := ((cfg0.win 15).blk t).view.emb (ix2 a b)) a b e fun _ => rfl)

end Cert.KernelIdeal.Value

end
-- ==== Proof.Consts.lean ====
/-
  THE NUMBERS. What the constants of the two programs are over the extended reals: the printed bits of 0, 1, 10, 4096 and
  32766, and the three named constants of the kernel.
-/
module

public import proofs.«01_k».proof.KernelIdeal
public import Idealize.ShloMosaic.PureOps.Ideal
public import Idealize.ShloMosaic.PureOps.IdealRules

@[expose] public section

noncomputable section

open Idealize.ShloMosaic

namespace Cert.Value

/-- The bits of `0.0`. -/
theorem bits_zero : Ideal.ofBits .f32 0x00000000#32 = (0 : EReal) := by
  simp [Ideal.ofBits, Ideal.ieee, -EReal.coe_mul]

/-- The bits of `1.0`. -/
theorem bits_one : Ideal.ofBits .f32 0x3F800000#32 = ((1 : ℝ) : EReal) := by
  simp [Ideal.ofBits, Ideal.ieee, -EReal.coe_mul]; norm_num

/-- The bits of `10.0`. -/
theorem bits_ten : Ideal.ofBits .f32 0x41200000#32 = ((10 : ℝ) : EReal) := by
  simp [Ideal.ofBits, Ideal.ieee, -EReal.coe_mul]; norm_num

/-- The bits of `4096.0`. -/
theorem bits_4096 : Ideal.ofBits .f32 0x45800000#32 = ((4096 : ℝ) : EReal) := by
  simp [Ideal.ofBits, Ideal.ieee, -EReal.coe_mul]; norm_num

/-- The bits of `32766.0`. -/
theorem bits_32766 : Ideal.ofBits .f32 0x46FFFC00#32 = ((32766 : ℝ) : EReal) := by
  simp [Ideal.ofBits, Ideal.ieee, -EReal.coe_mul]; norm_num

/-- The bits of `+∞`. -/
theorem bits_top : Ideal.ofBits .f32 0x7F800000#32 = (⊤ : EReal) := by
  simp [Ideal.ofBits, Ideal.ieee]

/-- The bits of `-∞`. -/
theorem bits_bot : Ideal.ofBits .f32 0xFF800000#32 = (⊥ : EReal) := by
  simp [Ideal.ofBits, Ideal.ieee]

/-- The weight of a row's own label. -/
theorem conf_eq : (Named.named Cert.KernelIdeal.κ "conf" 0x3F666666#32 : Ideal .f32) = ((9 / 10 : ℝ) : EReal) :=
  IdealRules.named_const.ideal_named_scalar _ _ _ _ rfl

/-- The weight of every other label but the padding one. -/
theorem eps_eq : (Named.named Cert.KernelIdeal.κ "eps" 0x364CD000#32 : Ideal .f32) = ((1 / 327660 : ℝ) : EReal) :=
  IdealRules.named_const.ideal_named_scalar _ _ _ _ rfl

/-- What a row that is not padding adds to the loss whatever its scores are. -/
theorem k_eq : (Named.named Cert.KernelIdeal.κ "k" 0xBFAEB1B0#32 : Ideal .f32)
    = (((1 / 10) * Real.log (129140163 / 109220000000000) : ℝ) : EReal) :=
  IdealRules.named_const.ideal_named_scalar _ _ _ _ rfl

end Cert.Value

end
-- ==== Proof.Weight.lean ====
/-
  THE SMOOTHED LABELS. The distribution that both programs compare the scores with: in a row whose label is the padding
  class everything is zero; in any other row the padding class is zero, the label's own class is 9/10, and each of the
  other 32766 classes has an equal part of the remaining 1/10.
-/
module

public import Idealize.ShloMosaic.PureOps.Ideal
public import Idealize.ShloMosaic.Lib.ValueIdxCore

@[expose] public section

noncomputable section

open Idealize.ShloMosaic
open scoped BigOperators

namespace Cert.Value

/-- The weight of class `c` in a row labelled `t`. -/
def weight (t : BitVec 32) (c : Fin 32768) : ℝ :=
  if t = 0#32 then 0 else if c.val = 0 then 0 else if BitVec.ofNat 32 c.val = t then 9 / 10 else 1 / 327660

/-- 1 for a row that is not padding, 0 for one that is. -/
def live (t : BitVec 32) : ℝ := if t = 0#32 then 0 else 1

/-- The weighted sum of the scores of row `i`. -/
def rowDot (L : (⟨1, ![4096]⟩ : Shape).Idx → BitVec 32) (X : (⟨2, ![4096, 32768]⟩ : Shape).Idx → EReal) (i : Fin 4096) : EReal :=
  ∑ c : Fin 32768, (weight (L (ValueIdx.ix1 i)) c : EReal) * X (ValueIdx.ix2 i c)

/-- 1 if row `i` is not padding, 0 if it is. -/
def rowLive (L : (⟨1, ![4096]⟩ : Shape).Idx → BitVec 32) (i : Fin 4096) : EReal := (live (L (ValueIdx.ix1 i)) : EReal)

/-- `w log w`, and 0 where `w` is 0. -/
def xlogx (w : ℝ) : ℝ := if 0 < w then w * Real.log w else 0

/-- A class number is zero as a word exactly when it is zero. -/
theorem word_eq_zero (c : Fin 32768) : BitVec.ofNat 32 c.val = 0#32 ↔ c.val = 0 := by
  rw [← BitVec.toNat_inj, BitVec.toNat_ofNat, Nat.mod_eq_of_lt (by have := c.isLt; omega)]
  simp

/-- Adding terms one after another to a start is the start plus their sum. -/
theorem foldl_add {n : ℕ} (f : Fin n → EReal) (a : EReal) : Fin.foldl n (fun b k => b + f k) a = a + ∑ k, f k := by
  induction n generalizing a with
  | zero => simp
  | succ n ih => rw [Fin.foldl_succ_last, ih, Fin.sum_univ_castSucc, add_assoc]

end Cert.Value
end
-- ==== Proof.Split.lean ====
/-
  WHAT ONE SPLIT ADDS. Over the extended reals a split of sixteen rows adds to the first total the sum of weight times
  score over its rows and classes, and to the second the number of its rows that are not padding.
-/
module

public import proofs.«01_k».proof.Proof.Point
public import proofs.«01_k».proof.Proof.Consts
public import proofs.«01_k».proof.Proof.Weight
public import Idealize.ShloMosaic.Lib.Pointwise

@[expose] public section

noncomputable section

open Idealize.ShloMosaic

namespace Cert.KernelIdeal.Value

open Cert.KernelIdeal Cert.KernelIdeal.Gen Cert.Value

/-- A comparison with the padding class, widened and read as a number, is 1 for a live row and 0 for a padding one. -/
theorem live_word (t : BitVec 32) :
    ((((BitVec.setWidth 32 (IntOp.cmpi CmpIPredicate.ne t 0#32)).toInt : ℝ) : EReal)) = (live t : EReal) := by
  by_cases h : t = 0#32
  · subst h
    simp [live, IntOp.cmpi]
  · have e : (t != 0#32) = true := by simpa using h
    simp [live, IntOp.cmpi, h, e]

/-- The nested choices of a split are the weight times the score. -/
theorem weight_select (t : BitVec 32) (c : Fin 32768) (x : EReal) :
    Scalar.select (IntOp.cmpi CmpIPredicate.ne t 0#32)
      (Scalar.select (IntOp.cmpi CmpIPredicate.eq (BitVec.ofNat 32 c.val) 0#32) 0
        (Scalar.select (IntOp.cmpi CmpIPredicate.eq (BitVec.ofNat 32 c.val) t)
          (((9 / 10 : ℝ) : EReal)) (((1 / 327660 : ℝ) : EReal)) * x)) 0 = (weight t c : EReal) * x := by
  unfold weight Scalar.select IntOp.cmpi
  by_cases h : t = 0#32
  · simp [h]
  have e : (t != 0#32) = true := by simpa using h
  have z := word_eq_zero c
  by_cases hc : c.val = 0
  · simp [h, e, hc]
  have hz : (BitVec.ofNat 32 c.val == 0#32) = false := by simpa using mt z.1 hc
  by_cases hl : BitVec.ofNat 32 c.val = t
  · have hl' : (BitVec.ofNat 32 c.val == t) = true := by simpa using hl
    simp only [h, e, hc, hz, hl', if_pos hl, if_false, BitVec.ofBool_true, BitVec.ofBool_false]
    simp
  · have hl' : (BitVec.ofNat 32 c.val == t) = false := by simpa using hl
    simp only [h, e, hc, hz, hl, hl', if_false, if_true, BitVec.ofBool_true, BitVec.ofBool_false]
    simp

/-- A split adds to the count the number of its rows that are not padding. -/
theorem count_split (T : Vec Ideal S1x16x1 .i32) (a : EReal) :
    k0_pay7 (F := Ideal) T a = a + ∑ r : Fin 16, (live (T (ValueIdx.ix3 0 r 0)) : EReal) := by
  pointwise [k0_pay7, k0_pay5, k0_pay4]
  congr 1
  refine Finset.sum_congr rfl fun r _ => ?_
  rw [Fin.sum_univ_one, ix3_eq_valueIdx]
  exact live_word _

/-- A split adds to the weighted sum its own weights times its own scores. -/
theorem dot_split (T : Vec Ideal S1x16x1 .i32) (X : Vec Ideal S16x32768 .f32) (a : EReal) :
    k0_pay6 (F := Ideal) T X a
      = a + ∑ r : Fin 16, ∑ c : Fin 32768, (weight (T (ValueIdx.ix3 0 r 0)) c : EReal) * X (ValueIdx.ix2 r c) := by
  pointwise [k0_pay6, k0_pay5, k0_pay4]
  refine congrArg (a + ·) ?_
  refine Finset.sum_congr rfl fun r _ => Finset.sum_congr rfl fun c _ => ?_
  rw [ix3_eq_valueIdx, ix2_eq_valueIdx, conf_eq, eps_eq]
  exact weight_select _ _ _

/-- The eight splits of a point, one after another, add their counts. -/
theorem counts_eq (T : Fin 8 → Vec Ideal S1x16x1 .i32) (a : EReal) :
    counts (F := Ideal) T a = a + ∑ k : Fin 8, ∑ r : Fin 16, (live (T k (ValueIdx.ix3 0 r 0)) : EReal) :=
  (congrArg (fun f => Fin.foldl 8 f a) (funext₂ fun b k => count_split (T k) b)).trans (foldl_add _ a)

/-- The eight splits of a point, one after another, add their weighted sums. -/
theorem dots_eq (T : Fin 8 → Vec Ideal S1x16x1 .i32) (X : Fin 8 → Vec Ideal S16x32768 .f32) (a : EReal) :
    dots (F := Ideal) T X a = a + ∑ k : Fin 8, ∑ r : Fin 16, ∑ c : Fin 32768,
      (weight (T k (ValueIdx.ix3 0 r 0)) c : EReal) * X k (ValueIdx.ix2 r c) :=
  (congrArg (fun f => Fin.foldl 8 f a) (funext₂ fun b k => dot_split (T k) (X k) b)).trans (foldl_add _ a)

end Cert.KernelIdeal.Value
end
-- ==== Proof.Accumulate.lean ====
/-
  THE TWO TOTALS. After a point the scratch holds the sums over all rows met so far; the last point writes the loss of the
  sums over every row.
-/
module

public import proofs.«01_k».proof.Proof.Blocks
public import proofs.«01_k».proof.Proof.Split

@[expose] public section

noncomputable section

open Idealize.ShloMosaic Idealize.ShloMosaic.TcCoe Idealize.SL.Sem

namespace Cert.KernelIdeal.Value

open Cert.KernelIdeal Cert.KernelIdeal.Gen Cert.Value

variable (m : (ℓ : Loc nD τ sig) → Buf (Elt Ideal) ℓ)

/-- The labels, one word per row. -/
abbrev labels (c : Dev nD) : S4096.Idx → BitVec 32 := m ((c : Thread nD τ).loc main_arg1)
/-- The scores, one row of 32768 per label. -/
abbrev scores (c : Dev nD) : S4096x32768.Idx → EReal := m ((c : Thread nD τ).loc main_arg0)

/-- The sum of `f` over the rows that point `t` is given. -/
def pointSum (f : Fin 4096 → EReal) (t : Fin 32) : EReal := ∑ k : Fin 8, ∑ a : Fin 16, f (row t k a)

/-- A point adds its live rows to the count. -/
theorem counts_point (c : Dev nD) (t : Fin cfg0.N) (z : EReal) :
    counts (F := Ideal) (tgtBlk m c t) z = z + pointSum (rowLive (labels m c)) (t.cast N_eq) := by
  rw [counts_eq]
  simp only [tgtBlk_apply]
  rfl

/-- A point adds its rows' weighted scores to the first total. -/
theorem dots_point (c : Dev nD) (t : Fin cfg0.N) (z : EReal) :
    dots (F := Ideal) (tgtBlk m c t) (xBlk m c t) z
      = z + pointSum (rowDot (labels m c) (scores m c)) (t.cast N_eq) := by
  rw [dots_eq]
  simp only [tgtBlk_apply, xBlk_apply]
  rfl

/-- After point `n`, short of the last, each cell holds the sum over the rows of the points up to `n`. -/
theorem totals (c : Dev nD) (y : S2.Idx) : ∀ (n : ℕ) (hn : n < 31),
    (outsAt0 m c n (lt_of_lt_of_eq (Nat.lt_succ_of_lt hn) N_eq.symm)).2 y
      = ∑ t : Fin (n + 1), pointSum (if (y 0).val = 1 then rowLive (labels m c) else rowDot (labels m c) (scores m c))
          (t.castLE (by omega))
  | 0, _ => by
    have h := step_A (F := Ideal) m c ⟨0, by rw [N_eq]; omega⟩ rfl (by decide) y
    refine h.trans ?_
    have z : (Scalar.ofBits .f32 0#32 : Ideal .f32) = (0 : EReal) := bits_zero
    rw [counts_point, dots_point, z, Fin.sum_univ_one]
    split <;> exact zero_add _
  | n + 1, hn => by
    have h := step_B (F := Ideal) m c ⟨n + 1, by rw [N_eq]; omega⟩
      (by show ¬ (n + 1) % 32 = 0; omega) (by show ¬ (n + 1) % 32 = 31; omega) y
    refine h.trans ?_
    rw [counts_point, dots_point, Fin.sum_univ_castSucc]
    have ih := totals c y n (by omega)
    simp only [Nat.add_sub_cancel]
    rw [ih]
    split <;> rfl

/-- The sum over the points of the sums over their rows is the sum over all rows. -/
theorem sum_points (f : Fin 4096 → EReal) : ∑ t : Fin 32, pointSum f t = ∑ i : Fin 4096, f i := by
  unfold pointSum
  rw [← (finProdFinEquiv : Fin 256 × Fin 16 ≃ Fin 4096).sum_comp f, Fintype.sum_prod_type,
    ← (finProdFinEquiv : Fin 32 × Fin 8 ≃ Fin 256).sum_comp, Fintype.sum_prod_type]
  refine Finset.sum_congr rfl fun t _ => Finset.sum_congr rfl fun k _ => Finset.sum_congr rfl fun a _ => congrArg f ?_
  apply Fin.ext
  simp only [row, finProdFinEquiv_apply_val]
  ring

/-- Before the last point, each cell holds the sum over the rows of every point but the last. -/
theorem totals_before_last (c : Dev nD) (y : S2.Idx) (n : ℕ) (hn : n < cfg0.N) (e : n = 30) :
    (outsAt0 m c n hn).2 y
      = ∑ t : Fin 31, pointSum (if (y 0).val = 1 then rowLive (labels m c) else rowDot (labels m c) (scores m c)) t.castSucc := by
  refine (totals m c y n (by omega)).trans ?_
  generalize pointSum _ = f
  subst e
  rfl

/-- The sum over all rows is the sum over the points but the last, and then the last point's. -/
theorem sum_last (f : Fin 4096 → EReal) (t : Fin cfg0.N) (e : t.val = 31) :
    (∑ s : Fin 31, pointSum f s.castSucc) + pointSum f (t.cast N_eq) = ∑ i : Fin 4096, f i := by
  rw [← sum_points, Fin.sum_univ_castSucc (n := 31), show t.cast N_eq = Fin.last 31 from Fin.ext e]

/-- The loss the kernel writes: the count of live rows times the constant, less the weighted sum of the scores, over the
    number of rows. -/
def kernelLoss (L : S4096.Idx → BitVec 32) (X : S4096x32768.Idx → EReal) : EReal :=
  k0_pay3 (F := Ideal) (∑ i, rowLive L i) (∑ i, rowDot L X i)

/-- What the last point leaves in the output's one cell. -/
theorem last_point (c : Dev nD) (y : S1x1.Idx) (t : Fin cfg0.N) (ht : t.val % 32 = 31) :
    (outsAt0 m c t.val t.isLt).1 y = kernelLoss (labels m c) (scores m c) := by
  have h0 : ¬ t.val % 32 = 0 := by omega
  have e31 : t.val = 31 := by have := lt_of_lt_of_eq t.isLt N_eq; omega
  rw [step_C (F := Ideal) m c t h0 ht y, counts_point, dots_point,
    totals_before_last m c cell0 _ _ (by omega), totals_before_last m c cell1 _ _ (by omega),
    if_neg (show ¬ (cell0 0).val = 1 by decide), if_pos (show (cell1 0).val = 1 from rfl),
    sum_last _ t e31, sum_last _ t e31]
  rfl

end Cert.KernelIdeal.Value
end
-- ==== Proof.KernelValue.lean ====
/-
  WHAT THE KERNEL LEAVES. The last point's one cell is written back over the whole 1 × 1 array, and the program returns that
  array with its axes dropped.
-/
module

public import proofs.«01_k».proof.Proof.Accumulate

@[expose] public section

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Value

variable (m : (ℓ : Loc nD τ sig) → Buf (Elt Ideal) ℓ) (ρ : Dev nD → PrngReg)

/-- The output array with the loss in its one cell. -/
def lossCell (c : Dev nD) : Buf (Elt Ideal) ((c : Thread nD τ).loc main_v1) := fun _ => kernelLoss (labels m c) (scores m c)

/-- The one write-back writes the loss. -/
theorem flushed_loss (c : Dev nD) (t : Fin cfg0.N) (hf : (cfg0.win 16).flush t = true) :
    (dats m 0 c).flushed 16 t = ((cfg0.win 16).blk t).view.read (Elt Ideal) (lossCell m c) := by
  show (cfg0.win 16).cut (grid0.coords t) ((dats m 0 c).after 16 t) = _
  rw [after0_16]
  funext y
  exact last_point m c _ t ((flush0_16 t).mp hf)

/-- The last point. -/
def lastPt : Fin cfg0.N := ⟨31, by rw [N_eq]; omega⟩

/-- The output array ends with the loss in its one cell. -/
theorem final_loss (c : Dev nD) : (dats m 0 c).arrAt 16 cfg0.N = lossCell m c :=
  (dats m 0 c).arrAt_eq_of_cover 16 (lossCell m c) (flushed_loss m c) fun i =>
    ⟨lastPt, (flush0_16 lastPt).mpr rfl, by
      show i ∈ ((View.whole main_v1).slice (win0_16.rect lastPt)).set
      rw [View.set_slice_whole, Rect.mem_set_unit]
      intro a
      have ha : (i a : Nat) < 1 := by
        have := (i a).isLt
        match a with
        | ⟨0, _⟩ => exact this
        | ⟨1, _⟩ => exact this
      show win0_16.index lastPt a * win0_16.size a ≤ (i a : Nat)
        ∧ (i a : Nat) < win0_16.index lastPt a * win0_16.size a + win0_16.xsize (grid0.coords lastPt) a
      have e0 : win0_16.index lastPt a * win0_16.size a = 0 :=
        (by decide +kernel : ∀ a, win0_16.index lastPt a * win0_16.size a = 0) a
      have e1 : win0_16.xsize (grid0.coords lastPt) a = 1 :=
        (by decide +kernel : ∀ a, win0_16.xsize (grid0.coords lastPt) a = 1) a
      omega⟩

/-- The program's result, read through the last line of the host program. -/
theorem tail_loss (c : Dev nD) :
    Pipeline.afterTail₀ cfgs (dats m) 0 (V0 m) [hostOps1] c main_v2 = fun _ => kernelLoss (labels m c) (scores m c) := by
  unfold Pipeline.afterTail₀
  simp only [hostOps1, List.flatten_cons, List.flatten_nil, List.append_nil, StableHlo.after_cons, StableHlo.after_nil]
  rw [StableHlo.reshape_result]
  have e : Pipeline.withArrays (cfgs 0).spec c (V0 m c) (fun w => (dats m 0 c).arrAt w (cfgs 0).N) (Proc.devRef .tc main_v1)
      = lossCell m c :=
    (Pipeline.withArrays_arr_shared (cfgs 0).spec c (V0 m c) _
      ((dats m 0 c).arrAt_sharedIn sharedIn0 (V0 m c) (A_eq m c) (cfgs 0).N) 16).trans (final_loss m c)
  funext i
  show shapeCast _ (Pipeline.withArrays (cfgs 0).spec c (V0 m c) (fun w => (dats m 0 c).arrAt w (cfgs 0).N) (Proc.devRef .tc main_v1)) _ i = _
  rw [e]
  rfl

/-- The kernel's run: its result is the loss, and its arguments are unchanged. -/
theorem run : θ_run defs (onTc (τ := τ) (main (F := Ideal))) ⟨m, fun _ => 0, ρ⟩ fun r => ∀ c : Dev nD,
      r.2.mem ((c.tc : Thread nD τ).loc main_v2) = (fun _ => kernelLoss (labels m c) (scores m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun r h c => ⟨((h.1 c).2 main_v2 (Pipeline.mem_restRefs_of main_v2 (by decide) (by decide))).trans (tail_loss m c), h.2 c⟩)
    (θ_run_and (run_main m ρ) (unchanged m ρ))

end Cert.KernelIdeal.Value
end
-- ==== Proof.Scatter.lean ====
/-
  THE REFERENCE'S TWO INDEXED WRITES. One sets, in each row, the entry at a pair of index words; the other sets a column.
-/
module

public import proofs.«01_k».proof.Proof.Gen.ReferenceIdeal
public import Idealize.ShloMosaic.Lib.Routing.OpsOne

@[expose] public section

noncomputable section

open Idealize.ShloMosaic Idealize.ShloMosaic.ValueIdx Idealize.ShloMosaic.Routing

namespace Cert.ReferenceIdeal.Value

open Cert.ReferenceIdeal Cert.ReferenceIdeal.Gen

/-- The index words of row `i`'s update are row `i` of the table of pairs. -/
theorem pair_start (i : Fin 4096) (idx : IVec S4096x2 32) (q : Fin 2) :
    scatter_S4096x32768_S4096x2_S4096_n_01_01_1.start (ix1 i) idx q = (idx (ix2 i q)).toInt := by
  unfold ScatterDims.start
  rw [dif_pos (by match q with | 0 => exact List.mem_cons_self .. | 1 => exact List.mem_cons_of_mem _ (List.mem_cons_self ..))]
  congr 2
  funext b
  match q, b with
  | 0, ⟨0, _⟩ => rfl
  | 0, ⟨1, _⟩ => rfl
  | 1, ⟨0, _⟩ => rfl
  | 1, ⟨1, _⟩ => rfl

/-- An update of one entry has no window: it adds nothing to the index words. -/
theorem pair_window (i : Fin 4096) (q : Fin 2) :
    scatter_S4096x32768_S4096x2_S4096_n_01_01_1.window (ix1 i) q = 0 := by
  match q with
  | 0 => rfl
  | 1 => rfl

/-- Where each row's first index word is the row itself, the write sets the entry its second index word names. -/
theorem scatter_pair {α : Type} (x0 : S4096x32768.Idx → α) (idx : IVec S4096x2 32) (upd : S4096.Idx → α)
    (hrow : ∀ i : Fin 4096, (idx (ix2 i 0)).toInt = (i.val : ℤ)) (r : Fin 4096) (c : Fin 32768) :
    Host.scatter scatter_S4096x32768_S4096x2_S4096_n_01_01_1 (fun _ b => b) x0 idx upd (ix2 r c)
      = if (idx (ix2 r 1)).toInt = (c.val : ℤ) then upd (ix1 r) else x0 (ix2 r c) := by
  have lands : ∀ i : Fin 4096, scatter_S4096x32768_S4096x2_S4096_n_01_01_1.resultIdx? (ix1 i) idx = some (ix2 r c)
      ↔ i = r ∧ (idx (ix2 r 1)).toInt = (c.val : ℤ) := fun i => by
    rw [resultIdx?_ix2, pair_start, pair_start, pair_window, pair_window, hrow, Fin.ext_iff]
    constructor
    · rintro ⟨a, b⟩
      have e : i = r := Fin.ext (by omega)
      subst e
      exact ⟨rfl, by omega⟩
    · rintro ⟨a, b⟩
      have e : i = r := Fin.ext a
      subst e
      exact ⟨by omega, by omega⟩
  by_cases h : (idx (ix2 r 1)).toInt = (c.val : ℤ)
  · rw [if_pos h]
    refine scatter_set_hit _ x0 idx upd _ _ (fun k hk => ?_) (ix1 r) ((lands r).2 ⟨rfl, h⟩)
    obtain ⟨i, rfl⟩ : ∃ i, k = ix1 i := ⟨k 0, eq_ix1 k⟩
    rw [((lands i).1 hk).1]
  · rw [if_neg h]
    refine scatter_set_miss _ x0 idx upd _ fun k hk => ?_
    obtain ⟨i, rfl⟩ : ∃ i, k = ix1 i := ⟨k 0, eq_ix1 k⟩
    exact h ((lands i).1 hk).2

/-- Where the one index word is zero, the write sets the first column. -/
theorem scatter_first {α : Type} (x0 : S4096x32768.Idx → α) (idx : IVec S1 32) (upd : S4096.Idx → α)
    (h0 : (idx (ix1 0)).toInt = 0) (r : Fin 4096) (c : Fin 32768) :
    Host.scatter scatter_S4096x32768_S1_S4096_0_1_1_0 (fun _ b => b) x0 idx upd (ix2 r c)
      = if c.val = 0 then upd (ix1 r) else x0 (ix2 r c) := by
  have lands := fun i : Fin 4096 => lands_col scatter_S4096x32768_S1_S4096_0_1_1_0 rfl rfl idx 0 h0 i r c
  by_cases h : c = 0
  · rw [if_pos (by rw [h]; rfl)]
    refine scatter_set_hit _ x0 idx upd _ _ (fun k hk => ?_) (ix1 r) ((lands r).2 ⟨rfl, h⟩)
    obtain ⟨i, rfl⟩ : ∃ i, k = ix1 i := ⟨k 0, eq_ix1 k⟩
    rw [((lands i).1 hk).1]
  · rw [if_neg (show ¬ c.val = 0 from fun e => h (Fin.ext e))]
    refine scatter_set_miss _ x0 idx upd _ fun k hk => ?_
    obtain ⟨i, rfl⟩ : ∃ i, k = ix1 i := ⟨k 0, eq_ix1 k⟩
    exact h ((lands i).1 hk).2

end Cert.ReferenceIdeal.Value
end
-- ==== Proof.Dist.lean ====
/-
  THE REFERENCE'S DISTRIBUTION. Built by writes into a constant array, it holds at row `r` and class `c` the weight of `c` in
  a row labelled as `r` is, whenever the labels are class numbers.
-/
module

public import proofs.«01_k».proof.Proof.Scatter
public import proofs.«01_k».proof.Proof.Consts
public import proofs.«01_k».proof.Proof.Weight
public import Idealize.ShloMosaic.Lib.Pointwise
public import Idealize.ShloMosaic.Lib.Routing.OpsPair

@[expose] public section

noncomputable section

open Idealize.ShloMosaic

namespace Cert.ReferenceIdeal.Value

open Cert.ReferenceIdeal Cert.ReferenceIdeal.Gen Cert.Value

/-- One tenth, as the reference computes it. -/
def tenth : FVec Ideal S_ .f32 := Host.divf (constant S_ .f32 0x3F800000#32) (constant S_ .f32 0x41200000#32)

/-- An index vector with its negative entries moved up by the extent `n`, as one column. -/
def wrapped (n : BitVec 32) (v : IVec S4096 32) : IVec S4096x1 32 :=
  broadcastInDim S4096x1 ![0] bcast_S4096_S4096x1_0
    (select (cmpi .slt v (broadcastInDim S4096 ![] bcast_S_S4096 (constantI S_ 32 0#32)))
      (addi v (broadcastInDim S4096 ![] bcast_S_S4096 (constantI S_ 32 n))) v)

/-- The table of pairs: row number, label. -/
def pairs (L : IVec S4096 32) : IVec S4096x2 32 :=
  concatenate S4096x2 1 [⟨S4096x1, wrapped 4096#32 (iotaInDim S4096 32 0)⟩, ⟨S4096x1, wrapped 32768#32 L⟩]
    concatenates_S4096x1_S4096x1_S4096x2_d1

/-- The rows before padding is dealt with: the small weight everywhere, and nine tenths at each row's own label. -/
def marked (L : IVec S4096 32) : FVec Ideal S4096x32768 .f32 :=
  Host.scatter scatter_S4096x32768_S4096x2_S4096_n_01_01_1 (fun _ b => b)
    (broadcastInDim S4096x32768 ![] bcast_S_S4096x32768 (Host.divf tenth (constant S_ .f32 0x46FFFC00#32)))
    (pairs L) (broadcastInDim S4096 ![] bcast_S_S4096 (subf (constant S_ .f32 0x3F800000#32) tenth))

/-- The whole distribution: the padding class and the padding rows set to zero. -/
def dist (L : IVec S4096 32) : FVec Ideal S4096x32768 .f32 :=
  select (broadcastInDim S4096x32768 ![0, 1] bcast_S4096x1_S4096x32768_0_1
      (broadcastInDim S4096x1 ![0] bcast_S4096_S4096x1_0
        (cmpi .eq L (broadcastInDim S4096 ![] bcast_S_S4096 (constantI S_ 32 0#32)))))
    (broadcastInDim S4096x32768 ![] bcast_S_S4096x32768 (id (constant S_ .f32 0x00000000#32)))
    (Host.scatter scatter_S4096x32768_S1_S4096_0_1_1_0 (fun _ b => b) (marked L)
      (broadcastInDim S1 ![] bcast_S_S1 (constantI S_ 32 0#32))
      (broadcastInDim S4096 ![] bcast_S_S4096 (constant S_ .f32 0x00000000#32)))

/-- One over ten is one tenth. -/
theorem tenth_apply (j : S_.Idx) : tenth j = ((1 / 10 : ℝ) : EReal) := by
  pointwise [tenth]
  rw [bits_ten, Ideal.div_coe (by norm_num), one_mul]

/-- An entry that is not negative is left as it is. -/
theorem wrapped_apply (n : BitVec 32) (v : IVec S4096 32) (i : Fin 4096) (h : (v (ValueIdx.ix1 i)).toNat < 2 ^ 31) :
    wrapped n v (ValueIdx.ix2 i 0) = v (ValueIdx.ix1 i) := by
  rw [← ix2_eq_valueIdx, ← ix1_eq_valueIdx] at *
  pointwise [wrapped]
  exact Routing.wrap_of_lt _ _ h

/-- A word below 32768 reads as the same number signed. -/
theorem toInt_small (t : BitVec 32) (h : t.toNat < 32768) : t.toInt = (t.toNat : ℤ) := by
  rw [BitVec.toInt_eq_toNat_of_lt]
  omega

/-- Row `i`'s first index word is `i`. -/
theorem pairs_row (L : IVec S4096 32) (i : Fin 4096) : (pairs L (ValueIdx.ix2 i 0)).toInt = (i.val : ℤ) := by
  have e : pairs L (ValueIdx.ix2 i 0) = wrapped 4096#32 (iotaInDim S4096 32 0) (ValueIdx.ix2 i 0) := by
    rw [← ix2_eq_valueIdx, ← ix2_eq_valueIdx]
    pointwise [pairs]
  have w : (iotaInDim S4096 32 0 (ValueIdx.ix1 i)).toNat = i.val := by
    rw [← ix1_eq_valueIdx]
    pointwise
    have := i.isLt
    rw [BitVec.toNat_ofNat, Nat.mod_eq_of_lt (by omega)]
  have := i.isLt
  rw [e, wrapped_apply _ _ _ (by omega), toInt_small _ (by omega), w]

/-- Row `i`'s second index word is its label. -/
theorem pairs_label (L : IVec S4096 32) (i : Fin 4096) (h : (L (ValueIdx.ix1 i)).toNat < 32768) :
    (pairs L (ValueIdx.ix2 i 1)).toInt = ((L (ValueIdx.ix1 i)).toNat : ℤ) := by
  have e : pairs L (ValueIdx.ix2 i 1) = wrapped 32768#32 L (ValueIdx.ix2 i 0) := by
    rw [← ix2_eq_valueIdx, ← ix2_eq_valueIdx]
    pointwise [pairs]
  rw [e, wrapped_apply _ _ _ (by omega), toInt_small _ h]

/-- A marked row: nine tenths at the label, one part in 327660 elsewhere. -/
theorem marked_apply (L : IVec S4096 32) (r : Fin 4096) (c : Fin 32768) (h : (L (ValueIdx.ix1 r)).toNat < 32768) :
    marked L (ValueIdx.ix2 r c) = if (L (ValueIdx.ix1 r)).toNat = c.val then ((9 / 10 : ℝ) : EReal) else ((1 / 327660 : ℝ) : EReal) := by
  unfold marked
  rw [scatter_pair _ _ _ (pairs_row L) r c, pairs_label L r h]
  simp only [Nat.cast_inj]
  split
  · rw [← ix1_eq_valueIdx]
    pointwise
    rw [tenth_apply, ← EReal.coe_one, ← EReal.coe_sub]
    norm_num
  · rw [← ix2_eq_valueIdx]
    pointwise
    rw [tenth_apply, bits_32766, Ideal.div_coe (by norm_num), ← EReal.coe_mul]
    norm_num

/-- The distribution holds the weights. -/
theorem dist_apply (L : IVec S4096 32) (r : Fin 4096) (c : Fin 32768) (h : (L (ValueIdx.ix1 r)).toNat < 32768) :
    dist L (ValueIdx.ix2 r c) = (weight (L (ValueIdx.ix1 r)) c : EReal) := by
  have s := scatter_first (marked L) (broadcastInDim S1 ![] bcast_S_S1 (constantI S_ 32 0#32))
    (broadcastInDim S4096 ![] bcast_S_S4096 (constant (F := Ideal) S_ .f32 0x00000000#32)) rfl r c
  rw [marked_apply L r c h] at s
  have e : (L (ValueIdx.ix1 r)).toNat = c.val ↔ BitVec.ofNat 32 c.val = L (ValueIdx.ix1 r) := by
    have := c.isLt
    rw [← BitVec.toNat_inj, BitVec.toNat_ofNat, Nat.mod_eq_of_lt (by omega)]
    exact eq_comm
  rw [← ix2_eq_valueIdx] at s ⊢
  pointwise [dist]
  rw [s, ix1_eq_valueIdx]
  unfold weight Scalar.select IntOp.cmpi
  by_cases ht : L (ValueIdx.ix1 r) = 0#32
  · simp [ht]
    exact bits_zero
  · have hb : (L (ValueIdx.ix1 r) == 0#32) = false := by simpa using ht
    simp only [ht, hb, e, if_false]
    by_cases hc : c.val = 0
    · simp [hc]
      exact bits_zero
    · simp only [hc, if_false]
      have hf : ¬ BitVec.ofBool false = (1 : BitVec 1) := by decide
      rw [if_neg hf]
      split <;> simp

end Cert.ReferenceIdeal.Value
end
-- ==== Proof.RefValue.lean ====
/-
  WHAT THE REFERENCE COMPUTES. The sum over every row and class of `w log w - w x`, over the number of rows, where `w` is the
  class's weight in the row and `x` its score.
-/
module

public import proofs.«01_k».proof.Proof.Gen.ReferenceIdeal.Run
public import proofs.«01_k».proof.Proof.Dist

@[expose] public section

noncomputable section

open Idealize.ShloMosaic Idealize.ShloMosaic.TcCoe Idealize.SL.Sem

namespace Cert.ReferenceIdeal.Value

open Cert.ReferenceIdeal Cert.ReferenceIdeal.Gen Cert.Value

/-- `w log w` of a distribution, entry by entry, with 0 where the entry is not positive. -/
def entropies (D : FVec Ideal S4096x32768 .f32) : FVec Ideal S4096x32768 .f32 :=
  select (cmpf .ogt D (broadcastInDim S4096x32768 ![] bcast_S_S4096x32768 (constant S_ .f32 0x00000000#32)))
    (mulf D (Host.log (select (cmpf .ogt D (broadcastInDim S4096x32768 ![] bcast_S_S4096x32768 (constant S_ .f32 0x00000000#32)))
      D (broadcastInDim S4096x32768 ![] bcast_S_S4096x32768 (id (constant S_ .f32 0x3F800000#32))))))
    (broadcastInDim S4096x32768 ![] bcast_S_S4096x32768 (id (constant S_ .f32 0x00000000#32)))

/-- The loss of a distribution and scores. -/
def lossOf (D X : FVec Ideal S4096x32768 .f32) : FVec Ideal S_ .f32 :=
  Host.divf (Host.reduceAdd (subf (entropies D) (mulf D X)) (constant S_ .f32 0x00000000#32) reducesTo_S4096x32768_S_d0_1 h_S_)
    (constant S_ .f32 0x45800000#32)

/-- The reference's result is the loss of its distribution. -/
theorem result_eq (m : (ℓ : Loc nD τ sig) → Buf (Elt Ideal) ℓ) (c : Dev nD) :
    res_out0 m c = lossOf (dist (m ((c.tc : Thread nD τ).loc main_arg1))) (m ((c.tc : Thread nD τ).loc main_arg0)) := rfl

/-- Where an entry is a real number, so is its `w log w`. -/
theorem entropies_apply (D : FVec Ideal S4096x32768 .f32) (j : S4096x32768.Idx) (w : ℝ) (h : D j = (w : EReal)) :
    entropies D j = (xlogx w : EReal) := by
  pointwise [entropies]
  simp only [h, id]
  unfold xlogx
  by_cases hw : 0 < w
  · have hp : (0 : EReal) < (w : EReal) := by exact_mod_cast hw
    have hl : Ideal.log (w : EReal) = (Real.log w : EReal) := if_neg (not_le.mpr hw)
    rw [if_pos hp, if_pos hp, if_pos hw, hl, EReal.coe_mul]
  · have hp : ¬ (0 : EReal) < (w : EReal) := by exact_mod_cast hw
    rw [if_neg hp, if_neg hw]
    exact bits_zero

/-- The sum over every row and class of `w log w - w x`, over the number of rows. -/
def referenceLoss (L : S4096.Idx → BitVec 32) (X : S4096x32768.Idx → EReal) : EReal :=
  Ideal.div (∑ r : Fin 4096, ∑ k : Fin 32768, ((xlogx (weight (L (ValueIdx.ix1 r)) k) : EReal)
    - (weight (L (ValueIdx.ix1 r)) k : EReal) * X (ValueIdx.ix2 r k))) ((4096 : ℝ) : EReal)

/-- With labels that are class numbers, the reference's result is that loss. -/
theorem result_apply (m : (ℓ : Loc nD τ sig) → Buf (Elt Ideal) ℓ) (c : Dev nD)
    (h : ∀ r : Fin 4096, ((m ((c.tc : Thread nD τ).loc main_arg1) : S4096.Idx → BitVec 32) (ValueIdx.ix1 r)).toNat < 32768) :
    res_out0 m c = fun _ => referenceLoss (m ((c.tc : Thread nD τ).loc main_arg1)) (m ((c.tc : Thread nD τ).loc main_arg0)) := by
  rw [result_eq]
  funext j
  generalize m ((c.tc : Thread nD τ).loc main_arg1) = L at h ⊢
  generalize m ((c.tc : Thread nD τ).loc main_arg0) = X
  pointwise [lossOf]
  rw [bits_4096]
  unfold referenceLoss
  have e := fun (r : Fin 4096) (k : Fin 32768) => dist_apply L r k (h r)
  have e' := fun (r : Fin 4096) (k : Fin 32768) => entropies_apply _ _ _ (e r k)
  simp only [ix2_eq_valueIdx, e, e']

end Cert.ReferenceIdeal.Value
end
-- ==== Proof.Entropy.lean ====
/-
  THE ENTROPY OF A ROW. Over the classes of a row, `w log w` adds to the same number in every row that is not padding,
  wherever the label is; the kernel has that number as a constant.
-/
module

public import proofs.«01_k».proof.Proof.Weight
public import Mathlib.Analysis.SpecialFunctions.Log.Basic

@[expose] public section

noncomputable section

open Idealize.ShloMosaic
open scoped BigOperators

namespace Cert.Value

/-- A weight is not negative. -/
theorem weight_nonneg (t : BitVec 32) (c : Fin 32768) : 0 ≤ weight t c := by
  unfold weight
  split_ifs <;> norm_num

/-- `0 log 0` is taken to be 0. -/
theorem xlogx_zero : xlogx 0 = 0 := if_neg (lt_irrefl _)

/-- The sum over the classes of a function that is 0 at class 0, `A` at class `a` and `B` at every other one. -/
theorem sum_classes (a : Fin 32768) (ha : a.val ≠ 0) (A B : ℝ) :
    (∑ c : Fin 32768, if c.val = 0 then 0 else if c = a then A else B) = A + 32766 * B := by
  have e (c : Fin 32768) : (if c.val = 0 then 0 else if c = a then A else B)
      = B + ((if c = 0 then -B else 0) + (if c = a then A - B else 0)) := by
    by_cases h : c = 0
    · have hc : c ≠ a := fun h' => ha (by rw [← h', h]; rfl)
      have hz : c.val = 0 := by rw [h]; rfl
      rw [if_pos hz, if_pos h, if_neg hc]; ring
    · have hz : ¬ c.val = 0 := fun h' => h (Fin.ext h')
      rw [if_neg hz, if_neg h]
      split_ifs <;> ring
  rw [Finset.sum_congr rfl fun c _ => e c, Finset.sum_add_distrib, Finset.sum_add_distrib, Finset.sum_ite_eq',
    Finset.sum_ite_eq', if_pos (Finset.mem_univ _), if_pos (Finset.mem_univ _), Finset.sum_const, Finset.card_univ,
    Fintype.card_fin, nsmul_eq_mul]
  push_cast
  ring

/-- The kernel's constant is `w log w` of the label's class and of the 32766 others. -/
theorem constant_eq : xlogx (9 / 10) + 32766 * xlogx (1 / 327660) = (1 / 10) * Real.log (129140163 / 109220000000000) := by
  have e : (129140163 / 109220000000000 : ℝ) = (9 / 10) ^ 9 * (1 / 327660) := by norm_num
  unfold xlogx
  rw [if_pos (by norm_num), if_pos (by norm_num), e, Real.log_mul (by norm_num) (by norm_num), Real.log_pow]
  push_cast
  ring

/-- Over the classes of a row `w log w` adds to the kernel's constant, and to 0 in a row of padding. -/
theorem row_entropy (t : BitVec 32) (h : t.toNat < 32768) :
    ∑ c : Fin 32768, xlogx (weight t c) = live t * ((1 / 10) * Real.log (129140163 / 109220000000000)) := by
  by_cases ht : t = 0#32
  · have hl : live t = 0 := if_pos ht
    have hw (c : Fin 32768) : weight t c = 0 := if_pos ht
    simp only [hl, hw, xlogx_zero, Finset.sum_const_zero, zero_mul]
  · have hl : live t = 1 := if_neg ht
    have ha : t.toNat ≠ 0 := fun h0 => ht (BitVec.eq_of_toNat_eq h0)
    have e (c : Fin 32768) : xlogx (weight t c)
        = if c.val = 0 then 0 else if c = ⟨t.toNat, h⟩ then xlogx (9 / 10) else xlogx (1 / 327660) := by
      have hc : BitVec.ofNat 32 c.val = t ↔ c = ⟨t.toNat, h⟩ := by
        rw [← BitVec.toNat_inj, BitVec.toNat_ofNat, Nat.mod_eq_of_lt (by have := c.isLt; omega), Fin.ext_iff]
      unfold weight
      rw [if_neg ht]
      split_ifs with h1 h2 h3 h3
      · exact xlogx_zero
      · rfl
      · exact absurd (hc.1 h2) h3
      · exact absurd (hc.2 h3) h2
      · rfl
    rw [Finset.sum_congr rfl fun c _ => e c, sum_classes ⟨t.toNat, h⟩ ha, constant_eq, hl, one_mul]

end Cert.Value
end
-- ==== Proof.Algebra.lean ====
/-
  THE TWO LOSSES ARE ONE. The reference adds `w log w - w x` over every row and class; the kernel multiplies the number of
  rows that are not padding by the entropy of a row and takes the weighted sum of the scores from it. These are the same
  extended real wherever the scores do not have both infinities among them.
-/
module

public import proofs.«01_k».proof.Proof.Accumulate
public import proofs.«01_k».proof.Proof.RefValue
public import proofs.«01_k».proof.Proof.Entropy

@[expose] public section

noncomputable section

open Idealize.ShloMosaic
open scoped BigOperators

namespace Cert.Value

open Cert.KernelIdeal.Value (kernelLoss)
open Cert.ReferenceIdeal.Value (referenceLoss)

/-- A sum of real numbers is the same over the extended reals. -/
theorem coe_total {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum without `+∞` among its terms is not `+∞`. -/
theorem sum_ne_top {ι : Type} (s : Finset ι) (b : ι → EReal) (h : ∀ i, b i ≠ ⊤) : ∑ i ∈ s, b i ≠ ⊤ := by
  classical
  induction s using Finset.induction_on with
  | empty => simp
  | insert a s ha ih => rw [Finset.sum_insert ha]; exact EReal.add_ne_top (h a) ih

/-- A sum without `-∞` among its terms is not `-∞`. -/
theorem sum_ne_bot {ι : Type} (s : Finset ι) (b : ι → EReal) (h : ∀ i, b i ≠ ⊥) : ∑ i ∈ s, b i ≠ ⊥ := by
  classical
  induction s using Finset.induction_on with
  | empty => simp
  | insert a s ha ih =>
    rw [Finset.sum_insert ha]
    exact fun e => (EReal.add_eq_bot_iff.1 e).elim (h a) ih

/-- The negative of a sum is the sum of the negatives, where the terms do not have both infinities among them. -/
theorem neg_sum {ι : Type} (s : Finset ι) (b : ι → EReal) (h : (∀ i, b i ≠ ⊤) ∨ (∀ i, b i ≠ ⊥)) :
    ∑ i ∈ s, -b i = -∑ i ∈ s, b i := by
  classical
  induction s using Finset.induction_on with
  | empty => simp
  | insert a s ha ih =>
    rw [Finset.sum_insert ha, Finset.sum_insert ha, ih, EReal.neg_add, sub_eq_add_neg]
    · exact h.elim (fun h => Or.inr (sum_ne_top s b h)) (fun h => Or.inl (h a))
    · exact h.elim (fun h => Or.inl (h a)) (fun h => Or.inr (sum_ne_bot s b h))

/-- A weight times a score that is not `+∞` is not `+∞`. -/
theorem weighted_ne_top (w : ℝ) (x : EReal) (hw : 0 ≤ w) (hx : x < ⊤) : (w : EReal) * x ≠ ⊤ := by
  rcases hw.eq_or_lt with rfl | hw
  · simp
  · induction x with
    | bot => rw [EReal.coe_mul_bot_of_pos hw]; exact bot_ne_top
    | coe r => rw [← EReal.coe_mul]; exact EReal.coe_ne_top _
    | top => exact absurd hx (lt_irrefl _)

/-- A weight times a score that is not `-∞` is not `-∞`. -/
theorem weighted_ne_bot (w : ℝ) (x : EReal) (hw : 0 ≤ w) (hx : ⊥ < x) : (w : EReal) * x ≠ ⊥ := by
  rcases hw.eq_or_lt with rfl | hw
  · simp
  · induction x with
    | bot => exact absurd hx (lt_irrefl _)
    | coe r => rw [← EReal.coe_mul]; exact EReal.coe_ne_bot _
    | top => rw [EReal.coe_mul_top_of_pos hw]; exact top_ne_bot

/-- The sum of the differences is the difference of the sums. -/
theorem total_eq (L : (⟨1, ![4096]⟩ : Shape).Idx → BitVec 32) (X : (⟨2, ![4096, 32768]⟩ : Shape).Idx → EReal)
    (hL : ∀ r : Fin 4096, (L (ValueIdx.ix1 r)).toNat < 32768) (hX : (∀ j, X j < (⊤ : EReal)) ∨ (∀ j, (⊥ : EReal) < X j)) :
    ∑ r : Fin 4096, ∑ k : Fin 32768, ((xlogx (weight (L (ValueIdx.ix1 r)) k) : EReal)
      - (weight (L (ValueIdx.ix1 r)) k : EReal) * X (ValueIdx.ix2 r k))
    = (∑ r, rowLive L r) * (((1 / 10) * Real.log (129140163 / 109220000000000) : ℝ) : EReal) - ∑ r, rowDot L X r := by
  have neg (r : Fin 4096) : ∑ k : Fin 32768, -((weight (L (ValueIdx.ix1 r)) k : EReal) * X (ValueIdx.ix2 r k)) = -rowDot L X r :=
    neg_sum _ _ (hX.imp (fun h k => weighted_ne_top _ _ (weight_nonneg _ _) (h _)) (fun h k => weighted_ne_bot _ _ (weight_nonneg _ _) (h _)))
  have row (r : Fin 4096) : ∑ k : Fin 32768, ((xlogx (weight (L (ValueIdx.ix1 r)) k) : EReal)
      - (weight (L (ValueIdx.ix1 r)) k : EReal) * X (ValueIdx.ix2 r k))
      = ((live (L (ValueIdx.ix1 r)) * ((1 / 10) * Real.log (129140163 / 109220000000000)) : ℝ) : EReal) + -rowDot L X r := by
    simp only [sub_eq_add_neg]
    rw [Finset.sum_add_distrib, neg r, ← coe_total, row_entropy _ (hL r)]
  rw [Finset.sum_congr rfl fun r _ => row r, Finset.sum_add_distrib, ← coe_total, ← Finset.sum_mul, EReal.coe_mul, coe_total,
    neg_sum, ← sub_eq_add_neg]
  · rfl
  · exact hX.imp (fun h r => sum_ne_top _ _ fun k => weighted_ne_top _ _ (weight_nonneg _ _) (h _))
      (fun h r => sum_ne_bot _ _ fun k => weighted_ne_bot _ _ (weight_nonneg _ _) (h _))

/-- The kernel's loss is the reference's. -/
theorem losses_eq (L : (⟨1, ![4096]⟩ : Shape).Idx → BitVec 32) (X : (⟨2, ![4096, 32768]⟩ : Shape).Idx → EReal)
    (hL : ∀ r : Fin 4096, (L (ValueIdx.ix1 r)).toNat < 32768) (hX : (∀ j, X j < (⊤ : EReal)) ∨ (∀ j, (⊥ : EReal) < X j)) :
    kernelLoss L X = referenceLoss L X := by
  unfold referenceLoss
  rw [total_eq L X hL hX, ← k_eq, ← bits_4096]
  rfl

end Cert.Value
end
-- ==== Proof.Pre.lean ====
/-
  WHAT THE PRECONDITION SAYS. Every label is a class number, and the scores do not have both infinities among them.
-/
module

public import proofs.«01_k».proof.Pre_labels_in_vocab
public import proofs.«01_k».proof.Proof.Consts
public import Idealize.ShloMosaic.Lib.ReduceAll
public import Idealize.ShloMosaic.Lib.ValueIdxCore

@[expose] public section

noncomputable section

open Idealize.ShloMosaic

namespace Cert.Pre_labels_in_vocab

/-- The side conditions of the precondition's operations. -/
theorem facts : Facts where
  bcast_S_S4096 := by decide
  bcast_S_S4096x32768 := by decide
  reducesTo_S4096x32768_S_d0_1 := by decide
  h_S_ := by decide

/-- A one-bit "or" that is 1 had a 1 on one side. -/
theorem ori_eq_one (a b : BitVec 1) (h : IntOp.ori a b = 1#1) : a = 1#1 ∨ b = 1#1 := by
  revert a b; decide

/-- A word at least 0 and below 32768, both as a signed number, is a class number. -/
theorem class_of_signed (t : BitVec 32) (h0 : IntOp.cmpi .sge t 0#32 = 1#1) (h1 : IntOp.cmpi .slt t 32768#32 = 1#1) :
    t.toNat < 32768 := by
  have e0 : (0#32).sle t = true := by
    cases h : (0#32).sle t
    · simp [IntOp.cmpi, h] at h0
    · rfl
  have e1 : t.slt 32768#32 = true := by
    cases h : t.slt 32768#32
    · simp [IntOp.cmpi, h] at h1
    · rfl
  rw [BitVec.sle_iff_toInt_le] at e0
  rw [BitVec.slt_iff_toInt_lt] at e1
  have a0 : (0#32).toInt = 0 := by decide
  have a1 : (32768#32).toInt = 32768 := by decide
  rw [a0] at e0
  rw [a1] at e1
  rw [BitVec.toInt_eq_toNat_cond] at e0 e1
  have := t.isLt
  split at e0 <;> omega

/-- A comparison with `+∞` that says 1 holds. -/
theorem lt_of_cmp (x : EReal) (h : Ideal.cmp .olt x ⊤ = 1#1) : x < ⊤ := by
  by_contra hx
  simp [Ideal.cmp, hx] at h

/-- A comparison with `-∞` that says 1 holds. -/
theorem gt_of_cmp (x : EReal) (h : Ideal.cmp .ogt x ⊥ = 1#1) : ⊥ < x := by
  by_contra hx
  simp [Ideal.cmp, hx] at h

/-- A result of no dimensions has one index. -/
instance : Subsingleton S_.Idx := ⟨fun a b => funext fun k => k.elim0⟩

/-- Where the precondition holds, every label is a class number, and either no score is `+∞` or no score is `-∞`. -/
theorem meaning [Facts] (X : FVec Ideal S4096x32768 .f32) (L : IVec S4096 32) (h : fn (F := Ideal) X L = fun _ => 1#1) :
    (∀ r : Fin 4096, (L (ValueIdx.ix1 r)).toNat < 32768) ∧ ((∀ j, X j < (⊤ : EReal)) ∨ (∀ j, (⊥ : EReal) < X j)) := by
  have at_row (r : Fin 4096) := IntOp.andi_eq_one.1 (congrFun h (ValueIdx.ix1 r))
  refine ⟨fun r => ?_, ?_⟩
  · have hl := IntOp.andi_eq_one.1 (at_row r).1
    exact class_of_signed _ hl.1 hl.2
  · refine (ori_eq_one _ _ (at_row 0).2).imp (fun e j => ?_) (fun e j => ?_)
    · have c := Host.reduce_andi_all _ _ _ _ _ e j
      exact lt_of_cmp _ (by rw [← Value.bits_top]; exact c)
    · have c := Host.reduce_andi_all _ _ _ _ _ e j
      exact gt_of_cmp _ (by rw [← Value.bits_bot]; exact c)

end Cert.Pre_labels_in_vocab
end
-- ==== Proof.lean ====
/-
  The proof of `Cert.Claim` (proofs.«01_k».proof.Defs). Every run of the kernel and of the reference ends, leaves the
  arguments as they were and every semaphore at zero; the named constants are those of the claim; and on labels that are
  class numbers the kernel and the reference have one result. What the kernel computes is in Proof/KernelValue.lean, what
  the reference computes in Proof/RefValue.lean, that the two are equal in Proof/Algebra.lean, and what the precondition
  says in Proof/Pre.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.RefValue
public import proofs.«01_k».proof.Proof.Algebra
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- Every run of the reference ends with its arguments as they were and every semaphore at zero. -/
theorem reference_frame (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩
      (fun r => (∀ c : Dev ReferenceIdeal.nD,
        r.2.mem ((c.tc : Thread ReferenceIdeal.nD ReferenceIdeal.τ).loc ReferenceIdeal.main_arg0)
          = m ((c.tc : Thread ReferenceIdeal.nD ReferenceIdeal.τ).loc ReferenceIdeal.main_arg0)
        ∧ r.2.mem ((c.tc : Thread ReferenceIdeal.nD ReferenceIdeal.τ).loc ReferenceIdeal.main_arg1)
          = m ((c.tc : Thread ReferenceIdeal.nD ReferenceIdeal.τ).loc ReferenceIdeal.main_arg1))
        ∧ r.2.sem = fun _ => 0) :=
  (θ_run ReferenceIdeal.defs _ _).mono
    (fun r h => ⟨fun c => (h c).2, sem_eq_zero_of_no_sems (by decide) r.2⟩) (ReferenceIdeal.Value.run m g)

/-- The kernel's named constants are the real numbers the claim gives them. -/
theorem named_constants : preserves_Kernel_KernelIdeal :=
  ⟨IdealRules.named_const.statement KernelIdeal.κ "conf" .f32 0x3F666666#32 ((9 / 10 : ℝ) : EReal) rfl,
   IdealRules.named_const.statement KernelIdeal.κ "eps" .f32 0x364CD000#32 ((1 / 327660 : ℝ) : EReal) rfl,
   IdealRules.named_const.statement KernelIdeal.κ "k" .f32 0xBFAEB1B0#32
    (((1 / 10) * (Real.log (129140163 / 109220000000000)) : ℝ) : EReal) rfl⟩

/-- From equal arguments that meet the precondition, the kernel and the reference end with one result. -/
theorem same_result : algebraic_KernelIdeal_ReferenceIdeal_pre_labels_in_vocab
    (hKernelIdeal := KernelIdeal.Gen.facts) (hReferenceIdeal := ReferenceIdeal.Gen.facts)
    (hPre_labels_in_vocab := Pre_labels_in_vocab.facts) := by
  intro m g m' g' pre same
  refine ⟨fun c => fun _ => KernelIdeal.Value.kernelLoss (KernelIdeal.Value.labels m c) (KernelIdeal.Value.scores m c),
    KernelIdeal.Value.run m g,
    (θ_run ReferenceIdeal.defs _ _).mono (fun r h c => ⟨(h c).1.trans ?_, (h c).2⟩) (ReferenceIdeal.Value.run m' g')⟩
  letI := Pre_labels_in_vocab.facts
  obtain ⟨hL, hX⟩ := Pre_labels_in_vocab.meaning _ _ (pre c)
  have hL' := hL
  rw [← (same c).2] at hL'
  refine (ReferenceIdeal.Value.result_apply m' c hL').trans ?_
  rw [(same c).1, (same c).2]
  exact funext fun _ => (Value.losses_eq _ _ hL hX).symm

/-- Everything the certificate claims. -/
theorem claim : Cert.Claim :=
  ⟨Kernel.Gen.facts, KernelIdeal.Gen.facts, ReferenceIdeal.Gen.facts, Pre_labels_in_vocab.facts,
    fun m g _ => Kernel.Gen.frame m g, fun m g _ => KernelIdeal.Gen.frame m g, fun m g _ => KernelIdeal.Gen.frame m g,
    fun m g _ => reference_frame m g, fun m g _ => reference_frame m g, named_constants, same_result⟩

end Cert.Proof

end
